-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x128 : Shape := ⟨2, ![16384, 128]⟩
abbrev S16384x32x128 : Shape := ⟨3, ![16384, 32, 128]⟩
abbrev S512x128 : Shape := ⟨2, ![512, 128]⟩
abbrev S512x32x128 : Shape := ⟨3, ![512, 32, 128]⟩
abbrev S512x1x128 : Shape := ⟨3, ![512, 1, 128]⟩

abbrev nBuf : Space → Nat
  | .hbm => 2
  | .vmem => 4
  | .smem => 0
  | _ => 0

abbrev bufTy : (tb : Table) → Fin (tcTables nBuf tb) → BufTy
  | .hbm, ⟨0, _⟩ => ⟨S16384x128, .f32⟩
  | .hbm, ⟨1, _⟩ => ⟨S16384x32x128, .f32⟩
  | .local _ .vmem, ⟨0, _⟩ => ⟨S512x128, .f32⟩
  | .local _ .vmem, ⟨1, _⟩ => ⟨S512x128, .f32⟩
  | .local _ .vmem, ⟨2, _⟩ => ⟨S512x32x128, .f32⟩
  | .local _ .vmem, ⟨3, _⟩ => ⟨S512x32x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S16384x128 : Shape := ⟨2, ![16384, 128]⟩
abbrev S_ : Shape := ⟨0, ![]⟩
abbrev S16384x128x1 : Shape := ⟨3, ![16384, 128, 1]⟩
abbrev S1x1x32 : Shape := ⟨3, ![1, 1, 32]⟩
abbrev S16384x128x32 : Shape := ⟨3, ![16384, 128, 32]⟩
abbrev S16384x32x128 : Shape := ⟨3, ![16384, 32, 128]⟩

abbrev nBuf : Space → Nat
  | .hbm => 13
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S_, .f32⟩
  | .hbm, ⟨2, _⟩ => ⟨S16384x128, .f32⟩
  | .hbm, ⟨3, _⟩ => ⟨S16384x128, .f32⟩
  | .hbm, ⟨4, _⟩ => ⟨S16384x128, .f32⟩
  | .hbm, ⟨5, _⟩ => ⟨S16384x128, .i32⟩
  | .hbm, ⟨6, _⟩ => ⟨S16384x128x1, .i32⟩
  | .hbm, ⟨7, _⟩ => ⟨S1x1x32, .i32⟩
  | .hbm, ⟨8, _⟩ => ⟨S16384x128x32, .i32⟩
  | .hbm, ⟨9, _⟩ => ⟨S16384x128x32, .i32⟩
  | .hbm, ⟨10, _⟩ => ⟨S16384x128x32, .i1⟩
  | .hbm, ⟨11, _⟩ => ⟨S16384x128x32, .f32⟩
  | .hbm, ⟨12, _⟩ => ⟨S16384x32x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v4 : Ref sig .tc := ⟨.hbm, 11, rfl⟩
abbrev main_v5 : Ref sig .tc := ⟨.hbm, 12, rfl⟩

abbrev nD : Nat := 1
abbrev τ : Topo := Topo.v7x

variable {F : FTy → Type} [FloatOps F]
-- ==== Proof.OneHot.lean ====
/-
  The function that the kernel and the reference both compute, over the extended reals: an entry `x` is scaled by 32,
  rounded down and read as a 32-bit integer, its CODE; cell `c` of its one-hot row is one where the code is `c` and zero
  elsewhere. `oneHot` is the whole result array [16384, 32, 128], the code axis in the middle.
-/
module

public import proofs.«01_k».proof.Defs
public import Idealize.ShloMosaic.Lib.ValueIdx
public import Idealize.ShloMosaic.Lib.IdealHost
public import Idealize.ShloMosaic.Lib.Pipeline.Value

@[expose] public section

noncomputable section

namespace Cert.OneHot

open Idealize.ShloMosaic Idealize.ShloMosaic.ValueIdx

/-- The code of an entry: `⌊32 x⌋` as a 32-bit integer. -/
def code (x : Ideal .f32) : BitVec 32 :=
  Ideal.fptosi 32 (Ideal.liftRound Int.floor (x * 32))

/-- The word of the programs' scale is the number 32. -/
theorem scale_eq : Ideal.ofBits .f32 0x42000000#32 = 32 := by
  have e : (32 : EReal) = ((32 : ℝ) : EReal) := rfl
  rw [e]
  simp [Ideal.ofBits, Ideal.ieee, -EReal.coe_mul]
  norm_num

/-- The programs' scale, floor and conversion of an entry are its code. -/
theorem code_eq (x : Ideal .f32) :
    Ideal.fptosi 32 (Ideal.liftRound Int.floor (x * Ideal.ofBits .f32 0x42000000#32)) = code x := by
  rw [scale_eq]; rfl

/-- Cell `c` of the one-hot row of a code: one if the code is `c`, else zero. -/
def cell (k : BitVec 32) (c : Nat) : Ideal .f32 := if k = BitVec.ofNat 32 c then 1 else 0

/-- The result array as a function of the argument array: at batch `b`, code `c`, parameter `p`, cell `c` of the one-hot
    row of entry `(b, p)`. -/
def oneHot {B C N : Nat} (x : FVec Ideal ⟨2, ![B, N]⟩ .f32) : FVec Ideal ⟨3, ![B, C, N]⟩ .f32 :=
  fun i => cell (code (x (ix2 (i 0) (i 2)))) (i 1)

/-- A select between the words of 1.0 and 0.0 on an equality test of a code is the cell. -/
theorem select_eq_cell (k : BitVec 32) (c : Nat) :
    Scalar.select (IntOp.cmpi .eq k (BitVec.ofNat 32 c)) (Ideal.ofBits .f32 0x3F800000#32) (Ideal.ofBits .f32 0x00000000#32)
      = cell k c := by
  rw [Ideal.ofBits_one_f32, Ideal.ofBits_zero_f32]
  by_cases h : k = BitVec.ofNat 32 c
  · simp [Scalar.select, IntOp.cmpi, cell, h]
  · have hb : (k == BitVec.ofNat 32 c) = false := beq_eq_false_iff_ne.mpr h
    simp [Scalar.select, IntOp.cmpi, cell, h, hb]

/-- The bit of an equality test of a code, read as a number, is the cell. -/
theorem bit_eq_cell (k : BitVec 32) (c : Nat) :
    (((IntOp.cmpi .eq k (BitVec.ofNat 32 c)).toNat : ℝ) : EReal) = cell k c := by
  by_cases h : k = BitVec.ofNat 32 c
  · simp [IntOp.cmpi, cell, h]
  · have hb : (k == BitVec.ofNat 32 c) = false := beq_eq_false_iff_ne.mpr h
    simp [IntOp.cmpi, cell, h, hb]

end Cert.OneHot

end
-- ==== Proof.KernelValue.lean ====
/-
  What the kernel computes: the body's one store leaves `oneHot` of the staged block; block `t` of the argument is its
  rows from `512 t` on, so what grid point `t` writes back is block `t` of `oneHot` of the whole argument; the 32 blocks
  tile the result.
-/
module

public import proofs.«01_k».proof.Proof.OneHot
public import proofs.«01_k».proof.Proof.Gen.KernelIdeal.Value

@[expose] public section

noncomputable section

namespace Cert.KernelIdeal.OneHotValue

open Cert.KernelIdeal Cert.KernelIdeal.Gen Cert.OneHot
open Idealize.ShloMosaic Idealize.ShloMosaic.TcCoe Idealize.ShloMosaic.ValueIdx Idealize.SL.Sem
open Idealize.ShloMosaic.Pipeline (Dat)

/-- The stored payload is `oneHot` of the loaded block. -/
theorem payload_eq (x : FVec Ideal S512x128 .f32) : k0_pay1 (F := Ideal) x = oneHot x := by
  funext j
  show Scalar.select (IntOp.cmpi .eq (broadcastTo S512x32x128 _ _ j) (iota .tc S512x32x128 32 [1] _ j)) _ _ = _
  rw [broadcastTo_apply _ _ j (ix3 (j 0) 0 (j 2) : S512x1x128.Idx) (fun a => by fin_cases a <;> rfl),
    shapeCast_apply _ _ _ (ix2 (j 0) (j 2) : S512x128.Idx) (by
      rw [Shape.rowMajor_val_two, Shape.rowMajor_val_three]
      show (j 0).val * 128 + (j 2).val = ((j 0).val * 1 + 0) * 128 + (j 2).val
      omega)]
  have hi : iota .tc S512x32x128 32 [1] iota_S512x32x128_d1_w32 j = BitVec.ofNat 32 (j 1) := by
    show BitVec.ofNat 32 (0 * 32 + (j 1).val) = _
    rw [Nat.zero_mul, Nat.zero_add]
  rw [hi]
  exact (select_eq_cell _ _).trans (congrArg (cell · _) (code_eq _))

theorem zeros2 : (![0, 0] : Fin 2 → Nat) = fun _ => 0 := funext fun a => by fin_cases a <;> rfl
theorem zeros3 : (![0, 0, 0] : Fin 3 → Nat) = fun _ => 0 := funext fun a => by fin_cases a <;> rfl

/-- What the body leaves in the result's staging buffer is `oneHot` of the staged block. -/
theorem out_eq (x : FVec Ideal S512x128 .f32) : out0_1 (F := Ideal) x = oneHot x := by
  unfold out0_1
  rw [View.canon_unit_zero zeros3, View.ld_unit_zero zeros2, payload_eq]

/-- The two windows' block offsets: both move by 512 rows per grid point and not along the other axes. -/
theorem offsets : ∀ t : Fin cfg0.N,
    win0_0.index t 0 = t.val ∧ win0_0.index t 1 = 0 ∧ win0_1.index t 0 = t.val ∧ win0_1.index t 1 = 0 ∧ win0_1.index t 2 = 0 :=
  (by decide +kernel : ∀ t : Fin grid0.N,
    win0_0.index t 0 = t.val ∧ win0_0.index t 1 = 0 ∧ win0_1.index t 0 = t.val ∧ win0_1.index t 1 = 0 ∧ win0_1.index t 2 = 0)

variable (m : (ℓ : Loc nD τ sig) → Buf (Elt Ideal) ℓ) (ρ : Dev nD → PrngReg)

/-- The result array's final contents: `oneHot` of the argument. -/
abbrev result (c : Dev nD) : Buf (Elt Ideal) ((c : Thread nD τ).loc main_v0) :=
  oneHot (C := 32) (m ((c : Thread nD τ).loc main_arg0))

/-- What grid point `t` writes back is block `t` of `oneHot` of the whole argument. -/
theorem flushed_eq (c : Dev nD) (t : Fin cfg0.N) :
    (dats m 0 c).flushed 1 t = ((cfg0.win 1).blk t).view.read (Elt Ideal) (result m c) := by
  rw [Value.flushed1, out_eq]
  funext y
  obtain ⟨h00, h01, h10, h11, h12⟩ := offsets t
  show cell (code (m ((c : Thread nD τ).loc main_arg0) (((cfg0.win 0).blk t).view.emb (ix2 (y 0) (y 2))))) (y 1).val
    = cell (code (m ((c : Thread nD τ).loc main_arg0)
        (ix2 (((cfg0.win 1).blk t).view.emb y 0) (((cfg0.win 1).blk t).view.emb y 2)))) (((cfg0.win 1).blk t).view.emb y 1).val
  have e : ((cfg0.win 0).blk t).view.emb (ix2 (y 0) (y 2))
      = ix2 (((cfg0.win 1).blk t).view.emb y 0) (((cfg0.win 1).blk t).view.emb y 2) := by
    funext a
    apply Fin.ext
    fin_cases a
    · show win0_0.index t 0 * 512 + 1 * (y 0).val = win0_1.index t 0 * 512 + 1 * (y 0).val
      rw [h00, h10]
    · show win0_0.index t 1 * 128 + 1 * (y 2).val = win0_1.index t 2 * 128 + 1 * (y 2).val
      rw [h01, h12]
  have e1 : (((cfg0.win 1).blk t).view.emb y 1).val = (y 1).val := by
    show win0_1.index t 1 * 32 + 1 * (y 1).val = (y 1).val
    rw [h11]; omega
  rw [e, e1]
  rfl

/-- Every index of the result is in the block of the grid point that its batch row belongs to. -/
theorem cover (i : S16384x32x128.Idx) :
    ∃ t : Fin cfg0.N, (cfg0.win 1).flush t = true ∧ i ∈ ((cfg0.win 1).blk t).view.set := by
  have h0 : (i 0 : Nat) < 16384 := (i 0).isLt
  have h1 : (i 1 : Nat) < 32 := (i 1).isLt
  have h2 : (i 2 : Nat) < 128 := (i 2).isLt
  have hN : cfg0.N = 32 := N_0
  have ht : (i 0).val / 512 < cfg0.N := by omega
  refine ⟨⟨(i 0).val / 512, ht⟩, flush0_1 _, ?_⟩
  obtain ⟨-, -, h10, h11, h12⟩ := offsets ⟨(i 0).val / 512, ht⟩
  show i ∈ ((View.whole main_v0).slice (win0_1.rect ⟨(i 0).val / 512, ht⟩)).set
  rw [View.set_slice_whole, Rect.mem_set_unit]
  intro a
  match a with
  | ⟨0, _⟩ =>
    show win0_1.index ⟨(i 0).val / 512, ht⟩ 0 * 512 ≤ (i 0).val ∧ (i 0).val < win0_1.index ⟨(i 0).val / 512, ht⟩ 0 * 512 + 512
    rw [h10]; dsimp only; omega
  | ⟨1, _⟩ =>
    show win0_1.index ⟨(i 0).val / 512, ht⟩ 1 * 32 ≤ (i 1).val ∧ (i 1).val < win0_1.index ⟨(i 0).val / 512, ht⟩ 1 * 32 + 32
    rw [h11]; omega
  | ⟨2, _⟩ =>
    show win0_1.index ⟨(i 0).val / 512, ht⟩ 2 * 128 ≤ (i 2).val ∧ (i 2).val < win0_1.index ⟨(i 0).val / 512, ht⟩ 2 * 128 + 128
    rw [h12]; omega

/-- After the run the result array is `oneHot` of the argument. -/
theorem final_eq (c : Dev nD) : (dats m 0 c).arrAt 1 cfg0.N = result m c :=
  (dats m 0 c).arrAt_eq_of_cover 1 (result m c) (fun t _ => flushed_eq m c t) cover

/-- The run, read: the result array ends at `oneHot` of the argument, the argument unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0) :=
  (θ_run defs _ _).mono (fun _ h c => ⟨(h c).1.trans (final_eq m c), (h c).2⟩) (Value.run_blocks m ρ)

end Cert.KernelIdeal.OneHotValue

end
-- ==== Proof.ReferenceValue.lean ====
/-
  What the reference computes: its composed term — scale, floor, convert, one-hot by an equality test against the numbers
  0 … 31, conversion of the bit, transposition — is `oneHot` of the argument.
-/
module

public import proofs.«01_k».proof.Proof.OneHot
public import proofs.«01_k».proof.Proof.Gen.ReferenceIdeal.Run

@[expose] public section

noncomputable section

namespace Cert.ReferenceIdeal.OneHotValue

open Cert.ReferenceIdeal Cert.ReferenceIdeal.Gen Cert.OneHot
open Idealize.ShloMosaic Idealize.ShloMosaic.TcCoe Idealize.ShloMosaic.ValueIdx Idealize.SL.Sem

/-- The reference's result at every index is the one-hot cell of the argument's entry. -/
theorem term_eq (x : FVec Ideal S16384x128 .f32) :
    transpose S16384x32x128 [0, 2, 1] (uitofp (F := Ideal) .f32 (cmpi .eq
        (broadcastInDim S16384x128x32 ![0, 1, 2] bcast_S16384x128x1_S16384x128x32_0_1_2
          (broadcastInDim S16384x128x1 ![0, 1] bcast_S16384x128_S16384x128x1_0_1
            (fptosi 32 (Host.floor (mulf x (broadcastInDim S16384x128 ![] bcast_S_S16384x128 (constant S_ .f32 0x42000000#32)))))))
        (broadcastInDim S16384x128x32 ![0, 1, 2] bcast_S1x1x32_S16384x128x32_0_1_2 (iotaInDim S1x1x32 32 2))))
      transposes_S16384x128x32_S16384x32x128_0_2_1 = oneHot x := by
  funext i
  rw [transpose_apply _ _ _ i (ix3 (i 0) (i 2) (i 1) : S16384x128x32.Idx) (fun b => by fin_cases b <;> rfl)]
  show (((IntOp.cmpi .eq _ _).toNat : ℝ) : EReal) = _
  rw [broadcastInDim_apply _ _ _ _ (ix3 (i 0) (i 2) 0 : S16384x128x1.Idx) (fun a => by fin_cases a <;> rfl),
    broadcastInDim_apply _ _ _ _ (ix2 (i 0) (i 2) : S16384x128.Idx) (fun a => by fin_cases a <;> rfl),
    broadcastInDim_apply _ _ _ _ (ix3 0 0 (i 1) : S1x1x32.Idx) (fun a => by fin_cases a <;> rfl)]
  exact (bit_eq_cell _ _).trans (congrArg (cell · _) (code_eq _))

/-- The run, read: the result array ends at `oneHot` of the argument, the argument unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = oneHot (m ((c.tc : Thread nD τ).loc main_arg0))
      ∧ r.2.mem ((c.tc : Thread nD τ).loc main_arg0) = m ((c.tc : Thread nD τ).loc main_arg0) :=
  (θ_run defs _ _).mono (fun _ h c => ⟨(h c).1.trans (term_eq _), (h c).2⟩) (Value.run m ρ)

end Cert.ReferenceIdeal.OneHotValue

end
-- ==== Proof.lean ====
/-
  The certificate of the discretizer: the frames of the kernel, of its idealization and of the reference; the ideal
  program is the kernel's own text; and kernel and reference compute the same function over the extended reals, the
  one-hot array `Cert.OneHot.oneHot` of the argument.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.KernelValue
public import proofs.«01_k».proof.Proof.ReferenceValue
public import Idealize.ShloMosaic.Adequacy
public import Idealize.ShloMosaic.Init
public import Idealize.ShloMosaic.Lib.Quiescent

@[expose] public section

noncomputable section

namespace Cert.Proof

open Idealize.ShloMosaic Idealize.SL.Sem

/-- The reference terminates, leaves its argument unchanged, and has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.OneHotValue.run m ρ)

/-- Kernel and reference, from equal arguments, both end at `oneHot` of the argument. -/
theorem same_function : Cert.algebraic_KernelIdeal_ReferenceIdeal := by
  intro m ρ m' ρ' _ hagree
  refine ⟨Cert.KernelIdeal.OneHotValue.result m, Cert.KernelIdeal.OneHotValue.run m ρ, ?_⟩
  refine (θ_run Cert.ReferenceIdeal.defs _ _).mono (fun _ h c => ⟨(h c).1.trans ?_, (h c).2⟩)
    (Cert.ReferenceIdeal.OneHotValue.run m' ρ')
  rw [hagree c]

/-- The five claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial,
    same_function⟩

end Cert.Proof

end
